-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8x1x1024 : Shape := ⟨3, ![8, 1, 1024]⟩
abbrev S1 : Shape := ⟨1, ![1]⟩
abbrev S8x8192x1024 : Shape := ⟨3, ![8, 8192, 1024]⟩
abbrev S_ : Shape := ⟨0, ![]⟩
abbrev S4x1x1024 : Shape := ⟨3, ![4, 1, 1024]⟩

abbrev nBuf : Table → Nat
  | .hbm => 4
  | _ => 0

abbrev bufTy : (tb : Table) → Fin (nBuf tb) → BufTy
  | .hbm, ⟨0, _⟩ => ⟨S8x1x1024, .f32⟩
  | .hbm, ⟨1, _⟩ => ⟨S1, .i32⟩
  | .hbm, ⟨2, _⟩ => ⟨S8x8192x1024, .f32⟩
  | .hbm, ⟨3, _⟩ => ⟨S8x1x1024, .f32⟩
  | _, _ => ⟨S8x1x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scs : Ref sig .scScalar := ⟨.hbm, 0, rfl⟩
abbrev main_v0_scs : Ref sig .scScalar := ⟨.hbm, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x1x1024 : Shape := ⟨3, ![8, 1, 1024]⟩
abbrev S1 : Shape := ⟨1, ![1]⟩
abbrev S8x8192x1024 : Shape := ⟨3, ![8, 8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1, .i32⟩
  | .hbm, ⟨2, _⟩ => ⟨S8x8192x1024, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x8192x1024, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8x1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_c_2 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_c_5 : Ref sig .tc := ⟨.hbm, 17, rfl⟩
abbrev main_c_6 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Proof.Copy.lean ====
/-
  The kernel's body: SparseCore 0's sequencer copies the token into the result in two transfers of four rows each. Both
  are started before either is waited for, each on a cell of its own. The module cuts the token and the result at row 4,
  runs the body on the four halves, and joins them again: the result then holds the token, word for word.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

/-- The rounds of the launch's handshakes. -/
abbrev UH : Type := URounds (GSem nD τ sig) ℕ
/-- The handshakes' rounds beside the counters of the body's transfers. -/
abbrev UU : Type := UH × Counters

local notation "𝕄" => MT nD τ sig (HIx 1) (Elt F) ℕ UU ℕ

/-- The thread of SparseCore 0's sequencer on device `d`. -/
abbrev S0 (d : Dev nD) (h : 0 < grid0.bound 0) : Thread nD τ := S d ((⟨0, h⟩ : Fin (grid0.bound 0)).castLE hcore0)

/-- The grid's coordinates at core `c`. -/
def coordsS (c : Fin (grid0.bound 0)) : grid0.Coords := fun | 0 => c | ⟨_ + 1, h⟩ => absurd h (Nat.not_lt.2 (Nat.le_add_left _ _))

/-- The token and the result, whole, as the sequencer names them. -/
abbrev tokW : Memref sig .scScalar .hbm S8x1x1024 .f32 := Memref.whole main_arg0_scs
abbrev outW : Memref sig .scScalar .hbm S8x1x1024 .f32 := Memref.whole main_v0_scs

/-! ## The two halves -/

/-- Rows 0 to 3 of an 8×1×1024 array, and rows 4 to 7. -/
abbrev loRows : Rect S8x1x1024 := Rect.unit (s := S8x1x1024) ![0, 0, 0] S4x1x1024.size inb_S8x1x1024_S4x1x1024_0_0_0
abbrev hiRows : Rect S8x1x1024 := Rect.unit (s := S8x1x1024) ![4, 0, 0] S4x1x1024.size inb_S8x1x1024_S4x1x1024_4_0_0

/-- An index is in the lower half when its row is below 4. -/
theorem mem_lo (i : S8x1x1024.Idx) : i ∈ loRows.set ↔ (i 0).val < 4 := by
  rw [Rect.mem_set_unit]
  constructor
  · intro h; simpa using (h 0).2
  · intro h a
    have ha := (i a).isLt
    fin_cases a
    · exact ⟨Nat.zero_le _, by simpa using h⟩
    · exact ⟨Nat.zero_le _, by simpa using ha⟩
    · exact ⟨Nat.zero_le _, by simpa using ha⟩

/-- An index is in the upper half when its row is 4 or above. -/
theorem mem_hi (i : S8x1x1024.Idx) : i ∈ hiRows.set ↔ 4 ≤ (i 0).val := by
  rw [Rect.mem_set_unit]
  constructor
  · intro h; simpa using (h 0).1
  · intro h a
    have ha := (i a).isLt
    fin_cases a
    · exact ⟨by simpa using h, by simpa using ha⟩
    · exact ⟨Nat.zero_le _, by simpa using ha⟩
    · exact ⟨Nat.zero_le _, by simpa using ha⟩

/-- No index is in both halves. -/
theorem halves_disjoint : Disjoint loRows.set hiRows.set :=
  Finset.disjoint_left.mpr fun i hl hh => absurd ((mem_lo i).mp hl) (Nat.not_lt.mpr ((mem_hi i).mp hh))

/-- Every index is in one of them. -/
theorem halves_cover : loRows.set ∪ hiRows.set = Finset.univ :=
  Finset.eq_univ_of_forall fun i => Finset.mem_union.mpr
    ((Nat.lt_or_ge (i 0).val 4).imp (mem_lo i).mpr (mem_hi i).mpr)

/-- The halves of the token and of the result, as the body slices them. -/
abbrev tokLo : Memref sig .scScalar .hbm S4x1x1024 .f32 := tokW.slice loRows (fun _ => rfl)
abbrev tokHi : Memref sig .scScalar .hbm S4x1x1024 .f32 := tokW.slice hiRows (fun _ => rfl)
abbrev outLo : Memref sig .scScalar .hbm S4x1x1024 .f32 := outW.slice loRows (fun _ => rfl)
abbrev outHi : Memref sig .scScalar .hbm S4x1x1024 .f32 := outW.slice hiRows (fun _ => rfl)

theorem set_tokLo : tokLo.view.set = loRows.set := View.set_slice_whole main_arg0_scs loRows
theorem set_tokHi : tokHi.view.set = hiRows.set := View.set_slice_whole main_arg0_scs hiRows
theorem set_outLo : outLo.view.set = loRows.set := View.set_slice_whole main_v0_scs loRows
theorem set_outHi : outHi.view.set = hiRows.set := View.set_slice_whole main_v0_scs hiRows

/-- Write rows `r` of the result, at `fo`, with what rows `r` of the token read at `fx`: on these rows it holds `fx`. -/
theorem rows_written (r : Rect S8x1x1024) (fx fo : S8x1x1024.Idx → Elt F .f32)
    (i : S8x1x1024.Idx) (hi : i ∈ r.set) :
    ((View.whole main_v0_scs).slice r).writes (Elt F) fo
        [⟨Rect.whole r.shape, ((View.whole main_arg0_scs).slice r).read (Elt F) fx⟩] i = fx i := by
  rw [← Rect.map_emb_univ] at hi
  obtain ⟨x, -, rfl⟩ := Finset.mem_map.mp hi
  exact congrFun (View.read_writes_whole ((View.whole main_v0_scs).slice r) fo
    (((View.whole main_arg0_scs).slice r).read (Elt F) fx)) x

section Body

variable [FloatOps F] (d : Dev nD)

/-- The token held whole is its two halves held. -/
theorem tok_split (h : 0 < grid0.bound 0) (f : Buf (Elt F) (tokW.view.loc (S0 d h))) :
    (tokW.view.loc (S0 d h) ↦{fullShare} f : sProp 𝕄)
      ⊣⊢ iprop((tokLo.view.loc (S0 d h) ↦[tokLo.view.set]{fullShare} f) ∗ tokHi.view.loc (S0 d h) ↦[tokHi.view.set]{fullShare} f) := by
  rw [set_tokLo, set_tokHi, ← halves_cover]
  exact pointsTo_union halves_disjoint

/-- The result held whole is its two halves held. -/
theorem out_split (h : 0 < grid0.bound 0) (f : Buf (Elt F) (outW.view.loc (S0 d h))) :
    (outW.view.loc (S0 d h) ↦{fullShare} f : sProp 𝕄)
      ⊣⊢ iprop((outLo.view.loc (S0 d h) ↦[outLo.view.set]{fullShare} f) ∗ outHi.view.loc (S0 d h) ↦[outHi.view.set]{fullShare} f) := by
  rw [set_outLo, set_outHi, ← halves_cover]
  exact pointsTo_union halves_disjoint

/-- The lower half of the result, written with the lower half of the token at `fx`, is held at `fx`. -/
theorem outLo_written (h : 0 < grid0.bound 0) (fx : Buf (Elt F) (tokW.view.loc (S0 d h))) (fo : Buf (Elt F) (outW.view.loc (S0 d h))) :
    (outLo.view.loc (S0 d h) ↦[outLo.view.set]{fullShare}
        outLo.view.writes (Elt F) fo [⟨Rect.whole S4x1x1024, tokLo.view.read (Elt F) fx⟩] : sProp 𝕄)
      = outLo.view.loc (S0 d h) ↦[outLo.view.set]{fullShare} fx :=
  pointsTo_congr fun i hi => rows_written loRows fx fo i (set_outLo ▸ hi)

/-- The upper half of the result, written with the upper half of the token at `fx`, is held at `fx`. -/
theorem outHi_written (h : 0 < grid0.bound 0) (fx : Buf (Elt F) (tokW.view.loc (S0 d h))) (fo : Buf (Elt F) (outW.view.loc (S0 d h))) :
    (outHi.view.loc (S0 d h) ↦[outHi.view.set]{fullShare}
        outHi.view.writes (Elt F) fo [⟨Rect.whole S4x1x1024, tokHi.view.read (Elt F) fx⟩] : sProp 𝕄)
      = outHi.view.loc (S0 d h) ↦[outHi.view.set]{fullShare} fx :=
  pointsTo_congr fun i hi => rows_written hiRows fx fo i (set_outHi ▸ hi)

/-- The body on the sequencer. From the token at `fx`, the result at anything, the two transfers' cells at zero and the
    waits allowed under what the sequencer owes, it runs to the token at `fx`, the result at `fx` and the cells at zero. -/
theorem body_run (h : 0 < grid0.bound 0) (O : CellTallies nD τ sig (HIx 1)) (W : Waits sig (HIx 1))
    (fx : Buf (Elt F) (tokW.view.loc (S0 d h))) (fo : Buf (Elt F) (outW.view.loc (S0 d h))) :
    (iprop(Transfers.MayWaits (S0 d h) (none : HIx 1) O
        ∗ (tokW.view.loc (S0 d h) ↦{fullShare} fx)
        ∗ (outW.view.loc (S0 d h) ↦{fullShare} fo)
        ∗ semVal (S0 d h, SemLoc.dma cc0_scratch0.sem) 0 ∗ semVal (S0 d h, SemLoc.dma cc0_scratch1.sem) 0
        ∗ owes (S0 d h) O W) : sProp 𝕄)
      ⊢ wp frame (wpE (defs₀ (F := F)) Variants.none (S0 d h) none) Set.univ
          (cc0__write_narrowed (coordsS ⟨0, h⟩) tokW (Memref.isWhole_whole _) outW (Memref.isWhole_whole _)
            cc0_scratch0 cc0_scratch1)
          fun _ => iprop((tokW.view.loc (S0 d h) ↦{fullShare} fx)
            ∗ (outW.view.loc (S0 d h) ↦{fullShare} fx)
            ∗ semVal (S0 d h, SemLoc.dma cc0_scratch0.sem) 0 ∗ semVal (S0 d h, SemLoc.dma cc0_scratch1.sem) 0
            ∗ ∃ W', owes (S0 d h) O W') := by
  iintro ⟨#Hmw, Hx, Ho, Hc0, Hc1, HO⟩
  ihave Hx' := (tok_split d h fx).1 $$ Hx
  icases Hx' with ⟨Hx0, Hx1⟩
  ihave Ho' := (out_split d h fo).1 $$ Ho
  icases Ho' with ⟨Ho0, Ho1⟩
  sl_unfold [cc0__write_narrowed]
  sl_exec
  sl_step
  isplitl [Hx0 Hx1]
  · iapply (tok_split d h fx).2
    isplitl [Hx0] <;> iassumption
  isplitl [Ho0 Ho1]
  · iapply (out_split d h fx).2
    isplitl [Ho0]
    · iapply (Entails.of_eq (outLo_written d h fx fo)); iexact Ho0
    · iapply (Entails.of_eq (outHi_written d h fx fo)); iexact Ho1
  isplitl [Hc0]; · iexact Hc0
  isplitl [Hc1]; · iexact Hc1
  iexists _; iexact HO

end Body

end Cert.Proof.Copy

end
-- ==== Proof.Launch.lean ====
/-
  The launch: `@main` hands the token and the result's array to SparseCore 0's sequencer, which runs the body of
  `Copy.lean` and hands them back. `run_main` states the whole program's run at any reading of the floats: it ends
  with the three arguments as they were at the start, the result equal to the token, and every counter at zero.
-/
module

public import proofs.«01_k».proof.Proof.Copy

@[expose] public section

noncomputable section

namespace Cert.Proof.Launch

open Cert.KernelIdeal Cert.KernelIdeal.Gen Cert.Proof.Copy

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the handshakes' cells and of the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, as a part of all the resources. -/
abbrev EH : Emb UH (MT nD τ sig (HIx 1) (Elt F) ℕ UU ℕ) := embL

variable (m : (ℓ : Loc nD τ sig) → Buf (Elt F) ℓ) (ρ : Dev nD → PrngReg)

/-- The four arrays of `@main`: the token, the position, the cache and the result. -/
abbrev tokLoc (d : Dev nD) : Loc nD τ sig := (SparseCore.T d).loc main_arg0
abbrev posLoc (d : Dev nD) : Loc nD τ sig := (SparseCore.T d).loc main_arg1
abbrev cacheLoc (d : Dev nD) : Loc nD τ sig := (SparseCore.T d).loc main_arg2
abbrev outLoc (d : Dev nD) : Loc nD τ sig := (SparseCore.T d).loc main_v0

variable [FloatOps F]

/-- What the call gives the sequencer: the token at its launch contents and the result at whatever it holds. -/
abbrev Given (d : Dev nD) : sProp 𝕄 :=
  iprop((tokLoc d ↦{fullShare} m (tokLoc d)) ∗ ∃ f, outLoc d ↦{fullShare} f)

/-- What the sequencer gives back: the token as it was, and the result at the token's contents. -/
abbrev Back (d : Dev nD) : sProp 𝕄 :=
  iprop((tokLoc d ↦{fullShare} m (tokLoc d)) ∗ outLoc d ↦{fullShare} m (tokLoc d))

/-- What the handshakes of the call carry. -/
def P : (K (F := F)).Pay (nD := nD) (Val := Elt F) (Name := ℕ) (U := UU) where
  st := fun _ d _ => Given m d
  dn := fun _ d _ => Back m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's part -/

section Sequencer

variable (d : Dev nD)

/-- The two transfers' cells on SparseCore `c`'s sequencer, by number. -/
abbrev cell (c : Fin τ.nSC) (k : Fin 2) : GSem nD τ sig := (S d c, .dma ⟨k.val, k.isLt⟩)

/-- Both are among the sequencer's own cells. -/
theorem cell_mem (c : Fin τ.nSC) (k : Fin 2) : cell d c k ∈ ownCells (S d c) :=
  mem_ownCells.mpr ⟨rfl, (show ∀ s : DmaSem sig, (SemLoc.dma s : SemLoc sig).isScoped .scScalar = true by decide) _⟩

/-- The sequencer's own cells at zero are the first transfer's, the second transfer's, and the others. -/
theorem own_cells (c : Fin τ.nSC) :
    (ownSems0 (S d c) : sProp 𝕄)
      = iprop((semVal (S d c, SemLoc.dma cc0_scratch0.sem) 0 ∗ semVal (S d c, SemLoc.dma cc0_scratch1.sem) 0)
          ∗ bigSep (ownCells (S d c) \ Finset.univ.image (cell d c)) fun g => semVal g 0) := by
  unfold SparseCore.Cfg.ownSems0
  rw [SparseCore.bigSep_sdiff_split' (t := Finset.univ.image (cell d c)) (Finset.image_subset_iff.mpr fun k _ => cell_mem d c k),
    SparseCore.bigSep_image_of_injOn (fun a _ b _ h => by
      have := congrArg (fun g : GSem nD τ sig => g.2) h
      simp only [SemLoc.dma.injEq, Fin.mk.injEq] at this; exact Fin.ext this),
    show (Finset.univ : Finset (Fin 2)) = {0, 1} by decide, SparseCore.bigSep_insert' (by decide), bigSep_singleton]
  rfl

/-- The token named by the sequencer is the token named by `@main`; -/
theorem tok_named (c : Fin τ.nSC) (f : Buf (Elt F) (tokLoc d)) :
    (tokW.view.loc (S d c) ↦{fullShare} f : sProp 𝕄) = tokLoc d ↦{fullShare} f := rfl
/-- the result likewise. -/
theorem out_named (c : Fin τ.nSC) (f : Buf (Elt F) (outLoc d)) :
    (outW.view.loc (S d c) ↦{fullShare} f : sProp 𝕄) = outLoc d ↦{fullShare} f := rfl

/-- The sequencer's part of the call: from what the call gives it, with its own buffers and its own cells at zero, the
    body runs to what it gives back, with its buffers and its cells at zero again. -/
theorem body_obl (h : 0 < grid0.bound 0) (O : CellTallies nD τ sig (HIx 1)) (W : Waits sig (HIx 1)) (hO : ∀ g, O g none = 0) :
    iprop(levAts (K (F := F)).L (K (F := F)).lev ∗ emp ∗ Given m d
        ∗ scopedBufs (S0 d h) ∗ scopedSems0 (S0 d h) ∗ owes (S0 d h) O W)
      ⊢ wp frame (wpE (defs₀ (F := F)) 𝒱₀ (S0 d h) none) Set.univ
          (cc0__write_narrowed (coordsS ⟨0, h⟩) tokW (Memref.isWhole_whole _) outW (Memref.isWhole_whole _)
            cc0_scratch0 cc0_scratch1)
          fun _ => iprop(Back m d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [SparseCore.Cfg.scopedSems0_S (Val := Elt F) d _, own_cells]
  iintro ⟨#Hlv, -, ⟨Hx, %fo, Ho⟩, Hbufs, ⟨⟨⟨Hc0, Hc1⟩, Hcells⟩, Htiles⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hx Ho Hc0 Hc1 HO]
  · iapply (body_run d h O W (m (tokLoc d)) fo)
    isplitr; · iexact Hmw
    isplitl [Hx]; · iapply (Entails.of_eq (tok_named (F := F) d _ _).symm); iexact Hx
    isplitl [Ho]; · iapply (Entails.of_eq (out_named (F := F) d _ _).symm); iexact Ho
    isplitl [Hc0]; · iexact Hc0
    isplitl [Hc1]; · iexact Hc1
    iexact HO
  iintro %_ ⟨Hx, Ho, Hc0, Hc1, %W', HO⟩
  isplitl [Hx Ho]
  · isplitl [Hx]
    · iapply (Entails.of_eq (tok_named (F := F) d _ _)); iexact Hx
    · iapply (Entails.of_eq (out_named (F := F) d _ _)); iexact Ho
  isplitl [Hbufs]; · iexact Hbufs
  isplitl [Hc0 Hc1 Hcells Htiles]
  · isplitr [Htiles]
    · isplitr [Hcells]
      · isplitl [Hc0] <;> iassumption
      · iexact Hcells
    · iexact Htiles
  iexists W'; isplitr
  · ipureintro; intro p _
    rcases p.2 with _ | q
    · exact .inr (.inl rfl)
    · exact .inr (.inr (congrArg some (Subsingleton.elim q 0)))
  · iexact HO

end Sequencer

/-- The body of call 0 on SparseCore `c`: the kernel on the one core of the grid, nothing elsewhere. -/
theorem defs₀_call (c : Fin τ.nSC) :
    defs₀ (F := F) (.scScalar c) 0 ()
      = SparseCore.onCore hcore0 (fun c => cc0__write_narrowed (coordsS c) tokW (Memref.isWhole_whole _) outW (Memref.isWhole_whole _)
          cc0_scratch0 cc0_scratch1) ⟨⟩ c := rfl

/-- The launch theorem's condition on call 0. -/
theorem call_obl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_call]; simp only [SparseCore.onCore, hc, ↓reduceDIte]
  match c with
  | ⟨0, h⟩ => exact body_obl m d h O W hO

/-! ## What the launch starts from -/

/-- The handshakes' rounds at their start; the transfers' counters empty. -/
def u₀ : UU := (initOf (K (F := F)).hsCells (K (F := F)).hsToks, 1)

/-- Nothing, once for every member of a set, is nothing. -/
theorem emps {I : Type} (s : Finset I) : (bigSep s fun _ => iprop(emp)) = (iprop(emp) : sProp 𝕄) := bigSep_emp_const s

/-- The launch theorem's condition on the start: the handshakes get their rounds, and nothing else is given out. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## `@main` -/

/-- `@main`'s arrays are the token, the position, the cache and the result. -/
theorem arrays_eq (d : Dev nD) (W : (b : Ref sig .tc) → Buf (Elt F) ((d.tc : Thread nD τ).loc b)) :
    (unscopedBufs d W : sProp 𝕄) = iprop((tokLoc d ↦{fullShare} W main_arg0) ∗ (posLoc d ↦{fullShare} W main_arg1)
      ∗ (cacheLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The call runs on one SparseCore: what it takes in all, -/
theorem given_all (d : Dev nD) : (bigSep Finset.univ fun c : Fin ((K (F := F)).nCore 0) => (P m).st 0 d c) = Given m d :=
  bigSep_univ_of_subsingleton (0 : Fin 1)
/-- and what it hands back in all. -/
theorem back_all (d : Dev nD) : (bigSep Finset.univ fun c : Fin ((K (F := F)).nCore 0) => (P m).dn 0 d c) = Back m d :=
  bigSep_univ_of_subsingleton (0 : Fin 1)

/-- What `@main` ends with: the three arguments at their launch contents, the result at the token's. -/
abbrev Ends (d : Dev nD) : sProp 𝕄 :=
  iprop((tokLoc d ↦{fullShare} m (tokLoc d)) ∗ (posLoc d ↦{fullShare} m (posLoc d))
    ∗ (cacheLoc d ↦{fullShare} m (cacheLoc d)) ∗ outLoc d ↦{fullShare} m (tokLoc d))

/-- `@main` makes the call and ends with `Ends`. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Ends m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Hp, Hk, Ho⟩, Hts, -⟩, -⟩
  iapply ((K (F := F)).wp_run (D (F := F)) 𝒱 (EH := EH) (P := P m) κ d 0) $$ [Hst Hx Ho Hb Hp Hk Hts]
  isplitr; · iexact Hctx
  isplitl [Hst]; · iexact Hst
  isplitl [Hx Ho]
  · rw [given_all]
    isplitl [Hx]; · iexact Hx
    iexists _; iexact Ho
  iintro ⟨Hst, Hdn⟩
  ihave Hdn' := (Entails.of_eq (back_all m d)) $$ Hdn
  icases Hdn' with ⟨Hx, Ho⟩
  imodintro
  isplitl [Hst]; · iexact Hst
  isplitr [Hb Hts]
  · isplitl [Hx]; · iexact Hx
    isplitl [Hp]; · iexact Hp
    isplitl [Hk] <;> iassumption
  isplitl [Hb] <;> iassumption

/-- What a final memory must say of device `d`. -/
def Says (d : Dev nD) (s' : Phys nD τ sig (Elt F)) : Prop :=
  s'.mem.mem (tokLoc d) = m (tokLoc d) ∧ s'.mem.mem (posLoc d) = m (posLoc d)
    ∧ s'.mem.mem (cacheLoc d) = m (cacheLoc d) ∧ s'.mem.mem (outLoc d) = m (tokLoc d)

/-- An array held whole at `f` is `f` in the memory. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  refine (persistent_entails_right (Q := iprop(⌜s'.mem.mem ℓ = f⌝)) ?_).trans ?_
  · iintro ⟨Hf, HSI⟩
    ihave H := (SI_pointsTo_agree (st := s') (ℓ := ℓ) (I := Finset.univ) (q := fullShare) (f := f)) $$ [HSI Hf]
    · isplitl [HSI] <;> iassumption
    icases H with %hx
    ipureintro; exact funext fun i => hx i (Finset.mem_univ i)
  · iintro ⟨H, -, HSI⟩
    isplitl [H] <;> iassumption

/-- A memory in which `@main` holds `Ends` says what it must. -/
theorem ends_says (d : Dev nD) (s' : Phys nD τ sig (Elt F)) : iprop(Ends m d ∗ SI s') ⊢ (⌜Says m d s'⌝ : sProp 𝕄) := by
  iintro ⟨⟨Hx, Hp, Hk, Ho⟩, HSI⟩
  ihave H := (read_whole s' (tokLoc d) _) $$ [HSI Hx]; · isplitl [Hx] <;> iassumption
  icases H with ⟨%hx, HSI⟩
  ihave H := (read_whole s' (posLoc d) _) $$ [HSI Hp]; · isplitl [Hp] <;> iassumption
  icases H with ⟨%hp, HSI⟩
  ihave H := (read_whole s' (cacheLoc d) _) $$ [HSI Hk]; · isplitl [Hk] <;> iassumption
  icases H with ⟨%hk, HSI⟩
  ihave H := (read_whole s' (outLoc d) _) $$ [HSI Ho]; · isplitl [Ho] <;> iassumption
  icases H with ⟨%ho, -⟩
  ipureintro; exact ⟨hx, hp, hk, ho⟩

/-! ## The program's run -/

/-- The end of the program: on every device the arguments are as they were and the result is the token; the counters
    are at zero. -/
def Ended : PUnit × MemSt nD τ sig (Elt F) → Prop := fun r =>
  (∀ c : Dev nD, r.2.mem (tokLoc c) = m (tokLoc c) ∧ r.2.mem (posLoc c) = m (posLoc c)
    ∧ r.2.mem (cacheLoc c) = m (cacheLoc c) ∧ r.2.mem (outLoc c) = m (tokLoc c)) ∧ r.2.sem = fun _ => 0

/-- Every weakly fair run of the program from memory `m` with the counters at zero ends as `Ended` says. -/
theorem run_main [∀ e, Nonempty (Elt F e)] :
    θ_run (Cert.KernelIdeal.defs (F := F)) (Cert.KernelIdeal.threads (F := F)) ⟨m, fun _ => 0, ρ⟩ (Ended m) :=
  SparseCore.Cfg.θ_run_sc_quiescent (K := K (F := F)) (D := D (F := F)) (𝒱 := 𝒱) (EH := EH) (P := P m) (A := ∅) facts v₀
    (fun q _ => match q with | 0 => call_obl m)
    (fun q hq => match q with | 0 => nomatch hq)
    (fun q hq => match q with | 0 => nomatch hq)
    m ρ main (fun _ => iprop(emp)) (Ends m) (u₀ (F := F)) (sep_elim_left.trans (hu₀ m)) (main_run m ρ) (Says m) (ends_says m) (Ended m) (fun _ h hz => ⟨h, hz⟩)

end Cert.Proof.Launch

end
-- ==== Proof.Update.lean ====
/-
  The reference's mathematics: a slice read where a block was just written is that block. The reference writes the token
  into the cache at the position and reads the same rows back; both operations move a position that would leave the array
  back inside it, and both move it alike, so the equation asks nothing of the position.
-/
module

public import Idealize.ShloMosaic.Lib.Pointwise.ShapeOpsCore

@[expose] public section

namespace Cert.Proof.Update

open Idealize.ShloMosaic

/-- Write `u` into `x` at `start`, then read a block of `u`'s shape at a `start'` equal to it: it is `u`. -/
theorem slice_update {α : Type} {s t : Shape} (x : s.Idx → α) (u : t.Idx → α) (start start' : Fin s.rank → Int)
    (h h' : s.Slices (fun _ => 0) t) (e : start' = start) :
    Host.dynamicSlice t (Host.dynamicUpdateSlice x u start h) start' h' = u := by
  subst e
  funext j
  rw [Host.dynamicSlice_apply, Host.dynamicUpdateSlice_apply, dif_pos]
  · congr 1
    funext b
    apply Fin.ext
    simp [Shape.Idx.norm]
  · intro a
    have := (j (a.cast h.1.symm)).isLt
    simp [Shape.Idx.norm]

end Cert.Proof.Update
-- ==== Proof.lean ====
/-
  The proof of the certificate's claim. The kernel's run is `Launch.run_main`, stated once for any reading of the floats
  and used at the words and at the extended reals. The reference's runs are read off its list of host operations. The two
  results agree by `Update.slice_update`: a slice read where a block was just written is that block.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.Update
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The kernel over words: every run ends, the arguments are unchanged and every counter is at zero. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Launch.run_main (F := Bits) m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (Launch.run_main (F := Ideal) m ρ)

/-- The reference over the extended reals: every run ends, the arguments unchanged and every counter at zero. -/
theorem frame_referenceIdeal : Cert.quiescent_ReferenceIdeal := by
  intro m g _
  hlo_run
  · exact fun _ => ⟨trivial, trivial, trivial⟩
  · exact sem_eq_zero_of_no_sems (by decide) _

/-- The same of the reference over words. -/
theorem frame_reference : Cert.quiescent_Reference := by
  intro m g _
  hlo_run
  · exact fun _ => ⟨trivial, trivial, trivial⟩
  · exact sem_eq_zero_of_no_sems (by decide) _

/-- Over the extended reals the kernel's result is the reference's. -/
theorem algebraic : Cert.algebraic_KernelIdeal_ReferenceIdeal := by
  intro m g m' g' _ hagree
  refine ⟨fun c => m (Launch.tokLoc c), ?_, ?_⟩
  · exact (θ_run Cert.KernelIdeal.defs _ _).mono
      (fun _ h c => ⟨(h.1 c).2.2.2, (h.1 c).1, (h.1 c).2.1, (h.1 c).2.2.1⟩) (Launch.run_main (F := Ideal) m g)
  · hlo_run
    refine Update.slice_update _ _ _ _ _ _ (funext fun k => ?_)
    fin_cases k <;> rfl

/-- Over words the kernel's result is the reference's, word for word. -/
theorem bitexact : Cert.bitexact_Kernel_Reference := by
  intro m g m' g' _ hagree
  refine ⟨fun c => m (Launch.tokLoc c), ?_, ?_⟩
  · exact (θ_run Cert.KernelIdeal.defs _ _).mono
      (fun _ h c => ⟨(h.1 c).2.2.2, (h.1 c).1, (h.1 c).2.1, (h.1 c).2.2.1⟩) (Launch.run_main (F := Bits) m g)
  · hlo_run
    refine Update.slice_update _ _ _ _ _ _ (funext fun k => ?_)
    fin_cases k <;> rfl

/-- All the claims of the certificate. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
